-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1920x3584 : Shape := ⟨3, ![4, 1920, 3584]⟩
abbrev S135790592 : Shape := ⟨1, ![135790592]⟩
abbrev S66304 : Shape := ⟨1, ![66304]⟩
abbrev S7680x3584 : Shape := ⟨2, ![7680, 3584]⟩
abbrev S2x3584x18944 : Shape := ⟨3, ![2, 3584, 18944]⟩
abbrev S66304x4 : Shape := ⟨2, ![66304, 4]⟩
abbrev S265216 : Shape := ⟨1, ![265216]⟩
abbrev S2x3584x37 : Shape := ⟨3, ![2, 3584, 37]⟩
abbrev S2x37x3584 : Shape := ⟨3, ![2, 37, 3584]⟩
abbrev S2x37x3584x1 : Shape := ⟨4, ![2, 37, 3584, 1]⟩
abbrev S2x37x3584x128 : Shape := ⟨4, ![2, 37, 3584, 128]⟩
abbrev S7680x18944 : Shape := ⟨2, ![7680, 18944]⟩
abbrev S512x3584 : Shape := ⟨2, ![512, 3584]⟩
abbrev S2x3584x512 : Shape := ⟨3, ![2, 3584, 512]⟩
abbrev S2x1x3584x128 : Shape := ⟨4, ![2, 1, 3584, 128]⟩
abbrev S512x512 : Shape := ⟨2, ![512, 512]⟩
abbrev S1x3584x128 : Shape := ⟨3, ![1, 3584, 128]⟩
abbrev S3584x128 : Shape := ⟨2, ![3584, 128]⟩
abbrev S1x1x3584x128 : Shape := ⟨4, ![1, 1, 3584, 128]⟩
abbrev S1x3584x512 : Shape := ⟨3, ![1, 3584, 512]⟩
abbrev S3584x512 : Shape := ⟨2, ![3584, 512]⟩
abbrev S4x1920x18944 : Shape := ⟨3, ![4, 1920, 18944]⟩

abbrev nBuf : Space → Nat
  | .hbm => 14
  | .vmem => 9
  | .smem => 0
  | _ => 0

abbrev bufTy : (tb : Table) → Fin (tcTables nBuf tb) → BufTy
  | .hbm, ⟨0, _⟩ => ⟨S4x1920x3584, .bf16⟩
  | .hbm, ⟨1, _⟩ => ⟨S135790592, .i8⟩
  | .hbm, ⟨2, _⟩ => ⟨S66304, .f32⟩
  | .hbm, ⟨3, _⟩ => ⟨S7680x3584, .bf16⟩
  | .hbm, ⟨4, _⟩ => ⟨S2x3584x18944, .i8⟩
  | .hbm, ⟨5, _⟩ => ⟨S66304, .bf16⟩
  | .hbm, ⟨6, _⟩ => ⟨S66304x4, .bf16⟩
  | .hbm, ⟨7, _⟩ => ⟨S265216, .bf16⟩
  | .hbm, ⟨8, _⟩ => ⟨S2x3584x37, .bf16⟩
  | .hbm, ⟨9, _⟩ => ⟨S2x37x3584, .bf16⟩
  | .hbm, ⟨10, _⟩ => ⟨S2x37x3584x1, .bf16⟩
  | .hbm, ⟨11, _⟩ => ⟨S2x37x3584x128, .bf16⟩
  | .hbm, ⟨12, _⟩ => ⟨S7680x18944, .bf16⟩
  | .hbm, ⟨13, _⟩ => ⟨S4x1920x18944, .bf16⟩
  | .local _ .vmem, ⟨0, _⟩ => ⟨S512x3584, .bf16⟩
  | .local _ .vmem, ⟨1, _⟩ => ⟨S512x3584, .bf16⟩
  | .local _ .vmem, ⟨2, _⟩ => ⟨S2x3584x512, .i8⟩
  | .local _ .vmem, ⟨3, _⟩ => ⟨S2x3584x512, .i8⟩
  | .local _ .vmem, ⟨4, _⟩ => ⟨S2x1x3584x128, .bf16⟩
  | .local _ .vmem, ⟨5, _⟩ => ⟨S2x1x3584x128, .bf16⟩
  | .local _ .vmem, ⟨6, _⟩ => ⟨S512x512, .bf16⟩
  | .local _ .vmem, ⟨7, _⟩ => ⟨S512x512, .bf16⟩
  | .local _ .vmem, ⟨8, _⟩ => ⟨S2x3584x512, .bf16⟩
  | _, _ => ⟨S4x1920x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![37, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x3584x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x1920x3584 : Shape := ⟨3, ![4, 1920, 3584]⟩
abbrev S135790592 : Shape := ⟨1, ![135790592]⟩
abbrev S66304 : Shape := ⟨1, ![66304]⟩
abbrev S66304x2048 : Shape := ⟨2, ![66304, 2048]⟩
abbrev S66304x1 : Shape := ⟨2, ![66304, 1]⟩
abbrev S2x3584x18944 : Shape := ⟨3, ![2, 3584, 18944]⟩
abbrev S2x18944x4x1920 : Shape := ⟨4, ![2, 18944, 4, 1920]⟩
abbrev S2x4x1920x18944 : Shape := ⟨4, ![2, 4, 1920, 18944]⟩
abbrev S1x4x1920x18944 : Shape := ⟨4, ![1, 4, 1920, 18944]⟩
abbrev S4x1920x18944 : Shape := ⟨3, ![4, 1920, 18944]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x1920x3584, .bf16⟩
  | .hbm, ⟨1, _⟩ => ⟨S135790592, .i8⟩
  | .hbm, ⟨2, _⟩ => ⟨S66304, .f32⟩
  | .hbm, ⟨3, _⟩ => ⟨S66304x2048, .i8⟩
  | .hbm, ⟨4, _⟩ => ⟨S66304x2048, .i32⟩
  | .hbm, ⟨5, _⟩ => ⟨S66304x2048, .bf16⟩
  | .hbm, ⟨6, _⟩ => ⟨S66304, .bf16⟩
  | .hbm, ⟨7, _⟩ => ⟨S66304x1, .bf16⟩
  | .hbm, ⟨8, _⟩ => ⟨S66304x2048, .bf16⟩
  | .hbm, ⟨9, _⟩ => ⟨S66304x2048, .bf16⟩
  | .hbm, ⟨10, _⟩ => ⟨S2x3584x18944, .bf16⟩
  | .hbm, ⟨11, _⟩ => ⟨S2x18944x4x1920, .f32⟩
  | .hbm, ⟨12, _⟩ => ⟨S2x4x1920x18944, .f32⟩
  | .hbm, ⟨13, _⟩ => ⟨S1x4x1920x18944, .f32⟩
  | .hbm, ⟨14, _⟩ => ⟨S4x1920x18944, .f32⟩
  | .hbm, ⟨15, _⟩ => ⟨S4x1920x18944, .f32⟩
  | .hbm, ⟨16, _⟩ => ⟨S4x1920x18944, .f32⟩
  | .hbm, ⟨17, _⟩ => ⟨S_, .f32⟩
  | .hbm, ⟨18, _⟩ => ⟨S4x1920x18944, .f32⟩
  | .hbm, ⟨19, _⟩ => ⟨S4x1920x18944, .f32⟩
  | .hbm, ⟨20, _⟩ => ⟨S_, .f32⟩
  | .hbm, ⟨21, _⟩ => ⟨S4x1920x18944, .f32⟩
  | .hbm, ⟨22, _⟩ => ⟨S4x1920x18944, .f32⟩
  | .hbm, ⟨23, _⟩ => ⟨S4x1920x18944, .f32⟩
  | .hbm, ⟨24, _⟩ => ⟨S1x4x1920x18944, .f32⟩
  | .hbm, ⟨25, _⟩ => ⟨S4x1920x18944, .f32⟩
  | .hbm, ⟨26, _⟩ => ⟨S4x1920x18944, .f32⟩
  | .hbm, ⟨27, _⟩ => ⟨S4x1920x18944, .bf16⟩
  | _, _ => ⟨S4x1920x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Spec.lean ====
module

public import Idealize.ShloMosaic.PureOps.Ideal

@[expose] public section

noncomputable section

open Idealize.ShloMosaic

/-! The function both programs are shown to compute, over the extended reals and over no program's names:
    a gated linear layer whose weights are integer codes times one scale per 2048 consecutive codes. -/

namespace Cert.Spec

/-- Weight `(g, k, n)`: its code as a number times the scale of the 2048 codes it is one of. Weights are stored
    flat, half `g` (gate, up) first, then row `k`, then column `n`. -/
def weight (C : Fin 135790592 → BitVec 8) (S : Fin 66304 → EReal) (g : Fin 2) (k : Fin 3584) (n : Fin 18944) : EReal :=
  (((C ⟨(g.val * 3584 + k.val) * 18944 + n.val, by omega⟩).toInt : ℝ) : EReal)
    * S ⟨((g.val * 3584 + k.val) * 18944 + n.val) / 2048, by omega⟩

/-- One position of the activations against one column of half `g` of the weights. -/
def dot (X : Fin 4 → Fin 1920 → Fin 3584 → EReal) (C : Fin 135790592 → BitVec 8) (S : Fin 66304 → EReal)
    (g : Fin 2) (b : Fin 4) (s : Fin 1920) (n : Fin 18944) : EReal :=
  ∑ k : Fin 3584, X b s k * weight C S g k n

/-- The gate: `g / (1 + exp (-g)) * u`. -/
def gated (g u : EReal) : EReal := Ideal.div g (1 + Ideal.exp (-g)) * u

/-- The layer's output at batch `b`, position `s`, column `n`. -/
def out (X : Fin 4 → Fin 1920 → Fin 3584 → EReal) (C : Fin 135790592 → BitVec 8) (S : Fin 66304 → EReal)
    (b : Fin 4) (s : Fin 1920) (n : Fin 18944) : EReal :=
  gated (dot X C S 0 b s n) (dot X C S 1 b s n)

/-- The exponential is never negative. -/
theorem exp_nonneg (x : EReal) : 0 ≤ Ideal.exp x := by
  induction x with
  | bot => exact le_refl _
  | top => exact le_top
  | coe r => exact EReal.coe_nonneg.2 (Real.exp_pos r).le

/-- The gate's denominator is never zero. -/
theorem denom_ne_zero (x : EReal) : 1 + Ideal.exp x ≠ 0 :=
  (lt_of_lt_of_le zero_lt_one (le_add_of_nonneg_right (exp_nonneg x))).ne'

/-- Multiplying by the reciprocal of the denominator is dividing by it: no corner case, the denominator not
    being zero. -/
theorem gated_recip (g u : EReal) : g * Ideal.div 1 (1 + Ideal.exp (-g)) * u = gated g u := by
  unfold gated Ideal.div
  rw [if_neg (denom_ne_zero _), if_neg (denom_ne_zero _), one_mul]

/-- Subtracting from zero is negating. -/
theorem gated_sub (g u : EReal) : Ideal.div g (1 + Ideal.exp (0 - g)) * u = gated g u := by
  rw [zero_sub]
  rfl

end Cert.Spec

end
-- ==== Proof.Body.lean ====
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # What one grid point leaves

    The kernel's grid runs 15 row blocks `i` inside 37 column blocks `j`; point `t` is `15 * j + i`. At `i = 0` the
    body dequantises a block of weights into the scratch, in eight stores; at every point it contracts the row
    block of `x` with the scratch's two halves and stores the gated product. Here: the scratch after a dequantising
    point is `WBLK`, after any other point it is what it was, and the output block is `OUT` of the scratch. -/

namespace Cert.KernelIdeal.Value

open Cert.KernelIdeal Cert.KernelIdeal.Gen

variable (m : (ℓ : Loc nD τ sig) → Buf (Elt Ideal) ℓ)

/-- The dequantised block: each code read as a number, times the scale of its column of 128 lanes. -/
def WBLK (x1 : Vec Ideal S2x3584x512 .i8) (x2 : Vec Ideal S2x1x3584x128 .bf16) : FVec Ideal S2x3584x512 .bf16 := fun y =>
  FloatOps.mulf (FloatOps.sitofp .bf16 (x1 y))
    (x2 (ix4 (y 0) (0 : Fin 1) (y 1) (⟨(y 2).val % 128, Nat.mod_lt _ (by decide)⟩ : Fin 128)))

/-- The dequantised block at an index, its coordinates given as hypotheses. -/
theorem WBLK_at (x1 : Vec Ideal S2x3584x512 .i8) (x2 : Vec Ideal S2x1x3584x128 .bf16) (y : S2x3584x512.Idx)
    (g : Fin 2) (k : Fin 3584) (r : Fin 512) (l : Fin 128) (h0 : (y 0 : ℕ) = g) (h1 : (y 1 : ℕ) = k)
    (h2 : (y 2 : ℕ) = r) (h3 : (r : ℕ) % 128 = l) :
    FloatOps.mulf (F := Ideal) (φ := .bf16) (FloatOps.sitofp .bf16 (x1 (ix3 g k r))) (x2 (ix4 g (0 : Fin 1) k l)) = WBLK x1 x2 y := by
  obtain rfl : y = ix3 g k r := by
    rw [eq_ix3 y]
    exact congr (congrArg₂ _ (Fin.ext h0) (Fin.ext h1)) (Fin.ext h2)
  obtain rfl : l = ⟨(r : ℕ) % 128, Nat.mod_lt _ (by decide)⟩ := Fin.ext h3.symm
  rfl

/-- At a dequantising point the eight stores into the scratch together hold the dequantised block. -/
theorem scratch_A (c : Dev nD) (t : Fin cfg0.N) (h : t.val % 15 = 0) :
    (outsAt0 m c t.val t.isLt).2 = WBLK (iblk m c 1 t) (iblk m c 2 t) := by
  funext y
  rw [outsAt0_A m c t h]
  frame_out
  clear h
  canon_tiles x h
  all_goals pointwise [k0_pay1, k0_pay2, k0_pay4, k0_pay5, k0_pay6, k0_pay7, k0_pay8, k0_pay9]
  all_goals exact WBLK_at _ _ y _ _ _ _ (by rw [h0]; simp) h1 h2 (by simp; try omega)

/-- The output block of one point, from its row block `x` and the scratch `W`. -/
def OUT (x : Vec Ideal S512x3584 .bf16) (W : Vec Ideal S2x3584x512 .bf16) : FVec Ideal S512x512 .bf16 :=
  k0_pay3 x (fun j => W (ix3 (0 : Fin 2) (j 1) (j 2))) (fun j => W (ix3 (1 : Fin 2) (j 1) (j 2)))

/-- At the other points the dequantised block is the one the point before left. -/
theorem scratch_B (c : Dev nD) (t : Fin cfg0.N) (h : ¬ t.val % 15 = 0) :
    (outsAt0 m c t.val t.isLt).2 = (outsAt0 m c (t.val - 1) (Nat.lt_of_le_of_lt (Nat.sub_le _ _) t.isLt)).2 := by
  rw [outsAt0_B m c t h]
  rfl

/-- The load of the first weight half, placed in the block: index `(0, k, r)`. -/
theorem half0_idx (j : S1x3584x512.Idx) :
    (Rect.unit (s := S2x3584x512) ![0, 0, 0] ![1, 3584, 512] inb_S2x3584x512_S1x3584x512_0_0_0).idx j
      = ix3 (0 : Fin 2) (j 1) (j 2) := by
  idx_vars j
  idx_ext

/-- The load of the second weight half, placed in the block: index `(1, k, r)`. -/
theorem half1_idx (j : S1x3584x512.Idx) :
    (Rect.unit (s := S2x3584x512) ![1, 0, 0] ![1, 3584, 512] inb_S2x3584x512_S1x3584x512_1_0_0).idx j
      = ix3 (1 : Fin 2) (j 1) (j 2) := by
  idx_vars j
  idx_ext

/-- At the points that keep the scratch, the output block is the product over the block kept. -/
theorem out_B (c : Dev nD) (t : Fin cfg0.N) (h : ¬ t.val % 15 = 0) :
    (outsAt0 m c t.val t.isLt).1 = OUT (iblk m c 0 t) (outsAt0 m c t.val t.isLt).2 := by
  rw [scratch_B m c t h]
  funext y
  rw [outsAt0_B m c t h]
  frame_out
  refine congrFun (congrArg₂ (k0_pay3 _) (funext fun j => ?_) (funext fun j => ?_)) y
  · exact (congrFun (Memref.IsWhole.read_unread (m := scM0_0) _ _) _).trans (congrArg _ (half0_idx j))
  · exact (congrFun (Memref.IsWhole.read_unread (m := scM0_0) _ _) _).trans (congrArg _ (half1_idx j))

/-- At the dequantising points, the output block is the product over the block just stored. -/
theorem out_A (c : Dev nD) (t : Fin cfg0.N) (h : t.val % 15 = 0) :
    (outsAt0 m c t.val t.isLt).1 = OUT (iblk m c 0 t) (outsAt0 m c t.val t.isLt).2 := by
  unfold OUT
  generalize hW : (outsAt0 m c t.val t.isLt).2 = W
  funext y
  rw [outsAt0_A m c t h]
  frame_out
  rw [View.readCov_eq_canon', View.readCov_eq_canon']
  rw [outsAt0_A m c t h] at hW
  refine congrFun (congrArg₂ (k0_pay3 _) (funext fun j => ?_) (funext fun j => ?_)) y
  · refine Eq.trans ?_ (congrArg W (half0_idx j))
    symm
    rw [← hW]
    frame_out
  · refine Eq.trans ?_ (congrArg W (half1_idx j))
    symm
    rw [← hW]
    frame_out

end Cert.KernelIdeal.Value

end
-- ==== Proof.Chain.lean ====
module

public import proofs.«01_k».proof.Proof.Body

@[expose] public section

set_option maxRecDepth 16384

noncomputable section

open Idealize.ShloMosaic Idealize.ShloMosaic.TcCoe Idealize.SL.Sem
open Idealize.ShloMosaic.Pipeline (Dat)

/-! # What the scratch holds at every point

    By induction along the grid: after point `t` the scratch holds columns `512 * (t / 15) …` of the dequantised
    weights `DEQ`, whichever of the fifteen points of the column block `t` is. -/

namespace Cert.KernelIdeal.Value

open Cert.KernelIdeal Cert.KernelIdeal.Gen

variable (m : (ℓ : Loc nD τ sig) → Buf (Elt Ideal) ℓ)

/-- Where each window's block sits at point `t = 15 * j + i`: `x` and the output by row block `i`,
    the codes, the scales and the output by column block `j`. -/
theorem idx : ∀ t : Fin cfg0.N, win0_0.index t = ![t.val % 15, 0] ∧ win0_1.index t = ![0, 0, t.val / 15]
    ∧ win0_2.index t = ![0, t.val / 15, 0, 0] ∧ win0_3.index t = ![t.val % 15, t.val / 15] :=
  (by decide +kernel : ∀ t : Fin grid0.N, _)

/-- One dequantised weight: code `(g, k, n)` as a number, times the scale stored for half `g`, column block
    `n / 512`, row `k`, lane `n % 128`. -/
def DEQ (C : Vec Ideal S2x3584x18944 .i8) (S : Vec Ideal S2x37x3584x128 .bf16) (g : Fin 2) (k : Fin 3584)
    (n : Fin 18944) : Ideal .bf16 :=
  FloatOps.mulf (FloatOps.sitofp .bf16 (C (ix3 g k n)))
    (S (ix4 g (⟨n.val / 512, by omega⟩ : Fin 37) k (⟨n.val % 128, by omega⟩ : Fin 128)))

/-- A column of a block is a column of the array. -/
theorem col_lt (t : Fin cfg0.N) (r : Fin 512) : 512 * (t.val / 15) + r.val < 18944 := by
  have h : t.val < 555 := t.isLt
  omega

/-- The dequantised block made at point `t` is the weight matrix's own columns `512 * (t / 15) + r`. -/
theorem wblk_eq (c : Dev nD) (t : Fin cfg0.N) (g : Fin 2) (k : Fin 3584) (r : Fin 512) :
    WBLK (iblk m c 1 t) (iblk m c 2 t) (ix3 g k r)
      = DEQ (V m c main_v1) (V m c main_v8) g k ⟨512 * (t.val / 15) + r.val, col_lt t r⟩ := by
  have hr := r.isLt
  unfold WBLK DEQ
  refine congrArg₂ _ (congrArg _ ?_) ?_
  · blk_ext [iblk, idx t]
  · blk_ext [iblk, idx t]

/-- What the scratch holds after point `t`. -/
theorem chain (c : Dev nD) (g : Fin 2) (k : Fin 3584) (r : Fin 512) : ∀ (n : ℕ) (hn : n < cfg0.N),
    (outsAt0 m c n hn).2 (ix3 g k r)
      = DEQ (V m c main_v1) (V m c main_v8) g k ⟨512 * (n / 15) + r.val, col_lt ⟨n, hn⟩ r⟩ := by
  intro n
  induction n with
  | zero =>
    intro hn
    rw [scratch_A m c ⟨0, hn⟩ rfl]
    exact wblk_eq m c ⟨0, hn⟩ g k r
  | succ n ih =>
    intro hn
    by_cases h : (n + 1) % 15 = 0
    · rw [scratch_A m c ⟨n + 1, hn⟩ h]
      exact wblk_eq m c ⟨n + 1, hn⟩ g k r
    · rw [scratch_B m c ⟨n + 1, hn⟩ h]
      refine (ih _).trans (congrArg _ (Fin.ext ?_))
      show 512 * (n / 15) + r.val = 512 * ((n + 1) / 15) + r.val
      omega

end Cert.KernelIdeal.Value

end
-- ==== Proof.Array.lean ====
module

public import proofs.«01_k».proof.Proof.Chain

@[expose] public section

set_option maxRecDepth 16384

noncomputable section

open Idealize.ShloMosaic Idealize.ShloMosaic.TcCoe Idealize.SL.Sem
open Idealize.ShloMosaic.Pipeline (Dat)

/-! # The array the grid writes

    Every point writes its own 512 x 512 block, and the blocks tile the output array, so the array is `ARR`, one
    formula per element over the three arrays the grid reads. -/

namespace Cert.KernelIdeal.Value

open Cert.KernelIdeal Cert.KernelIdeal.Gen

variable (m : (ℓ : Loc nD τ sig) → Buf (Elt Ideal) ℓ)

/-- The gated product of two numbers, as the kernel writes it: `g / (1 + exp (0 - g)) * u`. -/
def GLU (g u : EReal) : EReal := Ideal.div g (1 + Ideal.exp (0 - g)) * u

/-- One row of `x` against one column of weight half `g`. -/
def DOT (X : Vec Ideal S7680x3584 .bf16) (C : Vec Ideal S2x3584x18944 .i8) (S : Vec Ideal S2x37x3584x128 .bf16)
    (g : Fin 2) (row : Fin 7680) (n : Fin 18944) : EReal :=
  ∑ k : Fin 3584, (show EReal from X (ix2 row k)) * (show EReal from DEQ C S g k n)

/-- The array the kernel writes, element by element, over the three arrays it reads. -/
def ARR (X : Vec Ideal S7680x3584 .bf16) (C : Vec Ideal S2x3584x18944 .i8) (S : Vec Ideal S2x37x3584x128 .bf16) :
    FVec Ideal S7680x18944 .bf16 := fun y => GLU (DOT X C S 0 (y 0) (y 1)) (DOT X C S 1 (y 0) (y 1))

/-- The output block at an index: two contractions over the block's weights, gated. -/
theorem OUT_at (x : Vec Ideal S512x3584 .bf16) (W : Vec Ideal S2x3584x512 .bf16) (p q : Fin 512) :
    OUT x W (ix2 p q) = GLU (∑ k : Fin 3584, (show EReal from x (ix2 p k)) * (show EReal from W (ix3 (0 : Fin 2) k q)))
      (∑ k : Fin 3584, (show EReal from x (ix2 p k)) * (show EReal from W (ix3 (1 : Fin 2) k q))) := by
  pointwise [OUT, k0_pay3, GLU]

/-- At every point the output block is the product over the scratch as the point leaves it. -/
theorem out_eq (c : Dev nD) (t : Fin cfg0.N) :
    (outsAt0 m c t.val t.isLt).1 = OUT (iblk m c 0 t) (outsAt0 m c t.val t.isLt).2 := by
  by_cases h : t.val % 15 = 0
  · exact out_A m c t h
  · exact out_B m c t h

/-- A row of a block is a row of the array. -/
theorem row_lt (t : Fin cfg0.N) (p : Fin 512) : 512 * (t.val % 15) + p.val < 7680 := by
  omega

/-- One row of the input block, read off `x`. -/
theorem xblk_eq (c : Dev nD) (t : Fin cfg0.N) (p : Fin 512) (k : Fin 3584) :
    (iblk m c 0 t : Vec Ideal S512x3584 .bf16) (ix2 p k) = V m c main_v0 (ix2 (⟨512 * (t.val % 15) + p.val, row_lt t p⟩ : Fin 7680) k) := by
  blk_ext [iblk, idx t]

/-- What point `t` leaves at `(p, q)` of its output block is the array's value at row `512 * (t % 15) + p`,
    column `512 * (t / 15) + q`. -/
theorem point (c : Dev nD) (t : Fin cfg0.N) (p q : Fin 512) :
    (outsAt0 m c t.val t.isLt).1 (ix2 p q)
      = ARR (V m c main_v0) (V m c main_v1) (V m c main_v8)
          (ix2 (⟨512 * (t.val % 15) + p.val, row_lt t p⟩ : Fin 7680) (⟨512 * (t.val / 15) + q.val, col_lt t q⟩ : Fin 18944)) := by
  rw [out_eq, OUT_at]
  refine congrArg₂ GLU (Finset.sum_congr rfl fun k _ => ?_) (Finset.sum_congr rfl fun k _ => ?_)
  · exact congrArg₂ (fun a b : EReal => a * b) (xblk_eq m c t p k) (chain m c 0 k q t.val t.isLt)
  · exact congrArg₂ (fun a b : EReal => a * b) (xblk_eq m c t p k) (chain m c 1 k q t.val t.isLt)

/-- The kernel's output array after the run. -/
theorem final (c : Dev nD) : (dats m 0 c).arrAt 3 (cfgs 0).N
    = ARR (V m c main_v0) (V m c main_v1) (V m c main_v8) := by
  refine (dats m 0 c).arrAt_eq_of_covers 3 _ (by decide +kernel) fun t _ y => ?_
  blk_simp
  rw [after0_3]
  idx_vars y
  refine (point m c t y0 y1).trans (congrArg _ ?_)
  blk_ext [idx t]

end Cert.KernelIdeal.Value

end
-- ==== Proof.Entry.lean ====
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The three arrays the grid reads, as functions of the arguments

    The activations merged to rows, the codes reshaped, and the scales narrowed, repeated and rearranged. -/

namespace Cert.KernelIdeal.Value

open Cert.KernelIdeal Cert.KernelIdeal.Gen

variable (m : (ℓ : Loc nD τ sig) → Buf (Elt Ideal) ℓ)

/-- The array of activations the kernel reads: the argument, batch and position merged. -/
theorem V_v0 (c : Dev nD) : V m c main_v0 = shapeCast S7680x3584 (m ((c : Thread nD τ).loc main_arg0) : Vec Ideal S4x1920x3584 .bf16)
    shapeCasts_S4x1920x3584_S7680x3584 := by
  unfold V V0
  simp only [List.flatten_cons, List.flatten_nil, List.append_nil]
  after_results
  rfl

/-- The array of codes the kernel reads: the argument, reshaped. -/
theorem V_v1 (c : Dev nD) : V m c main_v1 = shapeCast S2x3584x18944 (m ((c : Thread nD τ).loc main_arg1) : Vec Ideal S135790592 .i8)
    shapeCasts_S135790592_S2x3584x18944 := by
  unfold V V0
  simp only [List.flatten_cons, List.flatten_nil, List.append_nil]
  after_results
  rfl

/-- The array of scales the kernel reads: the argument narrowed, each entry four times, rearranged to one column
    block per row and repeated over the lanes. -/
def SCALES (s : Vec Ideal S66304 .f32) : FVec Ideal S2x37x3584x128 .bf16 :=
  broadcastInDim S2x37x3584x128 ![0, 1, 2, 3] bcast_S2x37x3584x1_S2x37x3584x128_0_1_2_3
    (broadcastInDim S2x37x3584x1 ![0, 1, 2] bcast_S2x37x3584_S2x37x3584x1_0_1_2
      (transpose S2x37x3584 [0, 2, 1] (shapeCast S2x3584x37 (shapeCast S265216
        (broadcastInDim S66304x4 ![0] bcast_S66304_S66304x4_0 (truncf .bf16 s bitsLt_bf16_f32))
        shapeCasts_S66304x4_S265216) shapeCasts_S265216_S2x3584x37) transposes_S2x3584x37_S2x37x3584_0_2_1))

/-- The region finds its scales at `SCALES` of the argument. -/
theorem V_v8 (c : Dev nD) : V m c main_v8 = SCALES (m ((c : Thread nD τ).loc main_arg2) : Vec Ideal S66304 .f32) := by
  unfold V V0
  simp only [List.flatten_cons, List.flatten_nil, List.append_nil]
  after_results
  rfl

/-- The merged activations at row `b * 1920 + s`. -/
theorem rows_at (x : Vec Ideal S4x1920x3584 .bf16) (b : Fin 4) (s : Fin 1920) (k : Fin 3584) (row : Fin 7680)
    (h : (row : ℕ) = b * 1920 + s) :
    shapeCast S7680x3584 x shapeCasts_S4x1920x3584_S7680x3584 (ix2 row k) = x (ix3 b s k) := by
  refine shapeCast_apply x _ _ _ ?_
  rw [Shape.rowMajor_val_three, Shape.rowMajor_val_two]
  show ((b : ℕ) * 1920 + s) * 3584 + k = (row : ℕ) * 3584 + k
  rw [h]

/-- The reshaped codes are the flat codes in row-major order. -/
theorem codes_at (x : Vec Ideal S135790592 .i8) (g : Fin 2) (k : Fin 3584) (n : Fin 18944) (i : Fin 135790592)
    (h : (i : ℕ) = (g * 3584 + k) * 18944 + n) :
    shapeCast S2x3584x18944 x shapeCasts_S135790592_S2x3584x18944 (ix3 g k n) = x (ix1 i) := by
  refine shapeCast_apply x _ _ _ ?_
  rw [Shape.rowMajor_val_one, Shape.rowMajor_val_three]
  exact h

/-- The rearranged scales are the flat scales, each used for four blocks of 512 columns. -/
theorem SCALES_at (s : Vec Ideal S66304 .f32) (g : Fin 2) (j : Fin 37) (k : Fin 3584) (l : Fin 128) (i : Fin 66304)
    (h : (i : ℕ) = ((g * 3584 + k) * 37 + j) / 4) : SCALES s (ix4 g j k l) = s (ix1 i) := by
  pointwise [SCALES]
  refine congrArg s (congrArg ix1 (Fin.ext ?_))
  show _ / 4 = (i : ℕ)
  omega

end Cert.KernelIdeal.Value

end
-- ==== Proof.Equation.lean ====
module

public import proofs.«01_k».proof.Proof.Array
public import proofs.«01_k».proof.Proof.Entry
public import proofs.«01_k».proof.Proof.Spec

@[expose] public section

set_option maxRecDepth 16384

noncomputable section

open Idealize.ShloMosaic Idealize.ShloMosaic.TcCoe Idealize.SL.Sem
open Idealize.ShloMosaic.Pipeline (Dat)

/-! # The kernel's array is the layer's output

    The formula `ARR` over the arrays the grid reads is `Spec.out` over the arguments. The one piece of arithmetic:
    the scale the kernel looks up per 512 columns is the scale of the 2048 codes a code lies in. -/

namespace Cert.KernelIdeal.Value

open Cert.KernelIdeal Cert.KernelIdeal.Gen

variable (m : (ℓ : Loc nD τ sig) → Buf (Elt Ideal) ℓ)

/-- The activations a device starts with, by batch, position and feature. -/
def argX (c : Dev nD) : Fin 4 → Fin 1920 → Fin 3584 → EReal := fun b s k =>
  (m ((c : Thread nD τ).loc main_arg0) : Vec Ideal S4x1920x3584 .bf16) (ix3 b s k)

/-- The flat codes a device starts with. -/
def argC (c : Dev nD) : Fin 135790592 → BitVec 8 := fun i =>
  (m ((c : Thread nD τ).loc main_arg1) : Vec Ideal S135790592 .i8) (ix1 i)

/-- The flat scales a device starts with. -/
def argS (c : Dev nD) : Fin 66304 → EReal := fun i =>
  (m ((c : Thread nD τ).loc main_arg2) : Vec Ideal S66304 .f32) (ix1 i)

/-- The weight the kernel dequantises is the layer's weight: 512 divides both the row length and 2048, so the
    scale of a column block of 512 is the scale of the 2048 codes the code lies in. -/
theorem deq_eq (c : Dev nD) (g : Fin 2) (k : Fin 3584) (n : Fin 18944) :
    DEQ (V m c main_v1) (V m c main_v8) g k n = Spec.weight (argC m c) (argS m c) g k n := by
  unfold DEQ Spec.weight argC argS
  rw [V_v1, V_v8]
  refine congrArg₂ (fun a b : EReal => a * b) (congrArg (fun b : BitVec 8 => ((b.toInt : ℝ) : EReal)) ?_) ?_
  · exact codes_at _ g k n _ rfl
  · refine SCALES_at _ g _ k _ _ ?_
    show ((g.val * 3584 + k.val) * 18944 + n.val) / 2048 = ((g.val * 3584 + k.val) * 37 + n.val / 512) / 4
    omega

/-- One contraction of the kernel is the layer's. -/
theorem dot_eq (c : Dev nD) (g : Fin 2) (b : Fin 4) (s : Fin 1920) (row : Fin 7680) (n : Fin 18944)
    (h : (row : ℕ) = b * 1920 + s) :
    DOT (V m c main_v0) (V m c main_v1) (V m c main_v8) g row n
      = Spec.dot (argX m c) (argC m c) (argS m c) g b s n := by
  refine Finset.sum_congr rfl fun k _ => ?_
  refine congrArg₂ (fun a b : EReal => a * b) ?_ (deq_eq m c g k n)
  rw [V_v0]
  exact rows_at _ b s k row h

/-- The kernel's array, its rows split again into batch and position, is the layer's output. -/
theorem result_at (c : Dev nD) (b : Fin 4) (s : Fin 1920) (n : Fin 18944) :
    shapeCast S4x1920x18944 (ARR (V m c main_v0) (V m c main_v1) (V m c main_v8)) shapeCasts_S7680x18944_S4x1920x18944 (ix3 b s n)
      = Spec.out (argX m c) (argC m c) (argS m c) b s n := by
  have hb : b.val * 1920 + s.val < 7680 := by omega
  rw [shapeCast_apply (ARR (V m c main_v0) (V m c main_v1) (V m c main_v8)) shapeCasts_S7680x18944_S4x1920x18944
    (ix3 b s n) (ix2 (⟨b.val * 1920 + s.val, hb⟩ : Fin 7680) n) (by
      rw [Shape.rowMajor_val_two, Shape.rowMajor_val_three]
      rfl)]
  refine Eq.trans ?_ (Spec.gated_sub _ _)
  exact congrArg₂ GLU (dot_eq m c 0 b s _ n rfl) (dot_eq m c 1 b s _ n rfl)

end Cert.KernelIdeal.Value

end
-- ==== Proof.Result.lean ====
module

public import proofs.«01_k».proof.Proof.Equation
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The kernel's run

    The result buffer ends at the array the grid wrote, its rows split into batch and position. -/

namespace Cert.KernelIdeal.Value

open Cert.KernelIdeal Cert.KernelIdeal.Gen

variable (m : (ℓ : Loc nD τ sig) → Buf (Elt Ideal) ℓ)

/-- What the kernel's program leaves in its result buffer: the array the grid wrote, its rows split into batch and
    position. -/
def RES (c : Dev nD) : FVec Ideal S4x1920x18944 .bf16 :=
  shapeCast S4x1920x18944 (ARR (V m c main_v0) (V m c main_v1) (V m c main_v8)) shapeCasts_S7680x18944_S4x1920x18944

/-- The reshape after the grid reads the array the grid wrote. -/
theorem tail_v10 (c : Dev nD) :
    Pipeline.afterTail₀ cfgs (dats m) 0 (V0 m) [hostOps1] c main_v10 = RES m c := by
  unfold Pipeline.afterTail₀ RES
  simp only [List.flatten_cons, List.flatten_nil, List.append_nil]
  after_results
  erw [Pipeline.withArrays_arr _ launch0.win.arr_inj c _ _ 3]
  rw [final m c]
  rfl

/-- The kernel's run: its result buffer ends at `RES`, its arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v10) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v10 (by decide)).trans (tail_v10 m c), h.2 c⟩)
    (θ_run_and (run_main m ρ) (unchanged m ρ))

end Cert.KernelIdeal.Value

end
-- ==== Proof.Ref.lean ====
module

public import proofs.«01_k».proof.Proof.Gen.ReferenceIdeal.Read
public import proofs.«01_k».proof.Proof.Spec
public import Idealize.ShloMosaic.Lib.Pointwise

@[expose] public section

set_option maxRecDepth 16384

noncomputable section

open Idealize.ShloMosaic Idealize.ShloMosaic.TcCoe Idealize.SL.Sem

/-! # What the reference computes

    The reference's operations read at an index, one by one, down to `Spec.out`. -/

namespace Cert.ReferenceIdeal.Read

open Cert.ReferenceIdeal

/-- The reference's weight `(g, k, n)`, read through its reshapes and broadcasts. -/
theorem weight_at (x1 : (⟨S135790592, .i8⟩ : BufTy).Contents (Elt Ideal)) (x2 : (⟨S66304, .f32⟩ : BufTy).Contents (Elt Ideal))
    (i : S2x3584x18944.Idx) (g : Fin 2) (k : Fin 3584) (n : Fin 18944)
    (h0 : (i 0 : ℕ) = g) (h1 : (i 1 : ℕ) = k) (h2 : (i 2 : ℕ) = n) :
    val_main_v7 (F := Ideal) x1 x2 i = Spec.weight (fun j => x1 (ix1 j)) (fun j => x2 (ix1 j)) g k n := by
  rw [val_main_v7_apply, val_main_v6_apply, val_main_v5_apply, val_main_v4_apply, val_main_v3_apply,
    val_main_v2_apply, val_main_v1_apply, val_main_v0_apply]
  unfold Spec.weight
  refine congrArg₂ (fun a b : EReal => a * b) ?_ (congrArg x2 ?_)
  · show ((((x1 _ : BitVec 8).signExtend 32).toInt : ℝ) : EReal) = _
    rw [BitVec.toInt_signExtend_of_le (by decide)]
    refine congrArg (fun b : BitVec 8 => ((b.toInt : ℝ) : EReal)) (congrArg x1 ?_)
    refine funext fun (0 : Fin 1) => Fin.ext ?_
    show (((i 0 : ℕ) * 3584 + (i 1 : ℕ)) * 18944 + (i 2 : ℕ)) / 2048 * 2048 + (((i 0 : ℕ) * 3584 + (i 1 : ℕ)) * 18944 + (i 2 : ℕ)) % 2048
      = (g.val * 3584 + k.val) * 18944 + n.val
    rw [h0, h1, h2]
    omega
  · refine funext fun (0 : Fin 1) => Fin.ext ?_
    show (((i 0 : ℕ) * 3584 + (i 1 : ℕ)) * 18944 + (i 2 : ℕ)) / 2048 = ((g.val * 3584 + k.val) * 18944 + n.val) / 2048
    rw [h0, h1, h2]

/-- One contraction of the reference. -/
theorem dot_at (x0 : (⟨S4x1920x3584, .bf16⟩ : BufTy).Contents (Elt Ideal)) (x1 : (⟨S135790592, .i8⟩ : BufTy).Contents (Elt Ideal)) (x2 : (⟨S66304, .f32⟩ : BufTy).Contents (Elt Ideal))
    (i : S2x18944x4x1920.Idx) (g : Fin 2) (b : Fin 4) (s : Fin 1920) (n : Fin 18944)
    (h0 : (i 0 : ℕ) = g) (h1 : (i 1 : ℕ) = n) (h2 : (i 2 : ℕ) = b) (h3 : (i 3 : ℕ) = s) :
    val_main_v8 (F := Ideal) x0 x1 x2 i = Spec.dot (fun b s k => x0 (ix3 b s k)) (fun j => x1 (ix1 j)) (fun j => x2 (ix1 j)) g b s n := by
  rw [val_main_v8_apply]
  unfold Spec.dot
  refine Finset.sum_congr rfl fun k _ => ?_
  rw [mul_comm]
  refine congrArg₂ (fun a b : EReal => a * b) (congrArg x0 ?_) (weight_at x1 x2 _ g k n h0 rfl h1)
  funext a
  match a with
  | ⟨0, _⟩ => exact Fin.ext h2
  | ⟨1, _⟩ => exact Fin.ext h3
  | ⟨2, _⟩ => rfl

/-- The constant the reference's gate uses is the number one. -/
theorem one_at (i : S_.Idx) : (constant S_ .f32 0x3F800000#32 : FVec Ideal S_ .f32) i = (1 : EReal) := by
  pointwise

/-- The reference's gate value: the first contraction, read through the transpose and the slice. -/
theorem gate_at (x0 : (⟨S4x1920x3584, .bf16⟩ : BufTy).Contents (Elt Ideal)) (x1 : (⟨S135790592, .i8⟩ : BufTy).Contents (Elt Ideal)) (x2 : (⟨S66304, .f32⟩ : BufTy).Contents (Elt Ideal))
    (b : Fin 4) (s : Fin 1920) (n : Fin 18944) :
    val_main_v11 (F := Ideal) x0 x1 x2 (ix3 b s n)
      = Spec.dot (fun b s k => x0 (ix3 b s k)) (fun j => x1 (ix1 j)) (fun j => x2 (ix1 j)) 0 b s n := by
  rw [val_main_v11_apply, val_main_v10_apply, val_main_v9_apply]
  refine dot_at x0 x1 x2 _ 0 b s n ?_ ?_ ?_ ?_
  · rfl
  · show ((b.val * 1920 + s.val) * 18944 + n.val) % 18944 = n.val
    omega
  · show ((b.val * 1920 + s.val) * 18944 + n.val) / 36372480 % 4 = b.val
    omega
  · show ((b.val * 1920 + s.val) * 18944 + n.val) / 18944 % 1920 = s.val
    omega

/-- The reference's other factor: the second contraction, read through the transpose and the slice. -/
theorem up_at (x0 : (⟨S4x1920x3584, .bf16⟩ : BufTy).Contents (Elt Ideal)) (x1 : (⟨S135790592, .i8⟩ : BufTy).Contents (Elt Ideal)) (x2 : (⟨S66304, .f32⟩ : BufTy).Contents (Elt Ideal))
    (b : Fin 4) (s : Fin 1920) (n : Fin 18944) :
    val_main_v14 (F := Ideal) x0 x1 x2 (ix3 b s n)
      = Spec.dot (fun b s k => x0 (ix3 b s k)) (fun j => x1 (ix1 j)) (fun j => x2 (ix1 j)) 1 b s n := by
  rw [val_main_v14_apply, val_main_v13_apply, val_main_v9_apply]
  refine dot_at x0 x1 x2 _ 1 b s n ?_ ?_ ?_ ?_
  · rfl
  · show ((b.val * 1920 + s.val) * 18944 + n.val) % 18944 = n.val
    omega
  · show ((b.val * 1920 + s.val) * 18944 + n.val) / 36372480 % 4 = b.val
    omega
  · show ((b.val * 1920 + s.val) * 18944 + n.val) / 18944 % 1920 = s.val
    omega

/-- The reference's result at an index is the layer's output there. -/
theorem out_at (x0 : (⟨S4x1920x3584, .bf16⟩ : BufTy).Contents (Elt Ideal)) (x1 : (⟨S135790592, .i8⟩ : BufTy).Contents (Elt Ideal)) (x2 : (⟨S66304, .f32⟩ : BufTy).Contents (Elt Ideal))
    (b : Fin 4) (s : Fin 1920) (n : Fin 18944) :
    val_main_v16 (F := Ideal) x0 x1 x2 (ix3 b s n)
      = Spec.out (fun b s k => x0 (ix3 b s k)) (fun j => x1 (ix1 j)) (fun j => x2 (ix1 j)) b s n := by
  rw [val_main_v16_apply, val_main_v15_apply, val_main_v12_apply, up_at, val_main_call0_v5_apply, val_main_call0_v4_apply,
    val_main_call0_v3_apply, val_main_call0_v2_apply, val_main_call0_v1_apply, val_main_call0_v0_apply, gate_at]
  unfold val_main_call0_cst val_main_call0_cst_0
  rw [one_at]
  exact Spec.gated_recip _ _

end Cert.ReferenceIdeal.Read

end
-- ==== Proof.lean ====
/- The certificate's proof, assembled: the three frames (each program runs, its arguments end unchanged, its semaphore
   counters end at zero), the idealization (which rewrites nothing), and the equality of the kernel's and the
   reference's results over the extended reals. The mathematics is in the modules under Proof/: Spec (the function),
   Body, Chain, Array (the kernel's grid), Entry, Equation, Result (the kernel's program), Ref (the reference). -/
module

public import proofs.«01_k».proof.Defs
public import proofs.«01_k».proof.Proof.Gen.ReferenceIdeal.Read
public import proofs.«01_k».proof.Proof.Gen.ReferenceIdeal.Run
public import proofs.«01_k».proof.Proof.Spec
public import proofs.«01_k».proof.Proof.Body
public import proofs.«01_k».proof.Proof.Chain
public import proofs.«01_k».proof.Proof.Array
public import proofs.«01_k».proof.Proof.Entry
public import proofs.«01_k».proof.Proof.Equation
public import proofs.«01_k».proof.Proof.Result
public import proofs.«01_k».proof.Proof.Ref
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The kernel, over machine floats: it runs, its arguments end unchanged, every semaphore counter ends at zero. -/
theorem quiescent_Kernel : Cert.quiescent_Kernel (hKernel := Cert.Kernel.Gen.facts) :=
  fun m ρ _ => Cert.Kernel.Gen.frame m ρ

/-- The kernel, over the extended reals: the same. -/
theorem quiescent_KernelIdeal : Cert.quiescent_KernelIdeal (hKernelIdeal := Cert.KernelIdeal.Gen.facts) :=
  fun m ρ _ => Cert.KernelIdeal.Gen.frame m ρ

/-- The reference, over the extended reals: the same; it declares no semaphore. -/
theorem quiescent_ReferenceIdeal : Cert.quiescent_ReferenceIdeal (hReferenceIdeal := Cert.ReferenceIdeal.Gen.facts) :=
  fun m ρ _ => (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The idealization rewrites no operation, so there is nothing to preserve. -/
theorem preserves : Cert.preserves_Kernel_KernelIdeal := trivial

/-- From memories that agree on the arguments, the reference's result is the kernel's. -/
theorem results_eq (m : (ℓ : Loc Cert.KernelIdeal.nD Cert.KernelIdeal.τ Cert.KernelIdeal.sig) → Buf (Elt Ideal) ℓ) (c : Dev Cert.KernelIdeal.nD) :
    Cert.ReferenceIdeal.Read.val_main_v16 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Value.RES m c := by
  funext y
  rw [eq_ix3 y]
  exact (Cert.ReferenceIdeal.Read.out_at _ _ _ _ _ _).trans (Cert.KernelIdeal.Value.result_at m c _ _ _).symm

/-- The kernel and the reference compute equal results over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.RES m c, Cert.KernelIdeal.Value.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v16_eq (F := Ideal) _ _ _).trans ?_
  obtain ⟨h0, h1, h2⟩ := hagree c
  rw [h0, h1, h2]
  exact results_eq m c

/-- Every claim of this certificate. -/
theorem claim : Cert.Claim := ⟨Cert.Kernel.Gen.facts, Cert.KernelIdeal.Gen.facts, Cert.ReferenceIdeal.Gen.facts,
  quiescent_Kernel, quiescent_KernelIdeal, quiescent_ReferenceIdeal, preserves, algebraic⟩

end Cert.Proof

end
